-- ==== Defs.lean ====
def Pre_Kernel [hPre_labelled : Cert.Pre_labelled.Facts] (m : (ℓ : Loc Cert.Kernel.nD Cert.Kernel.τ Cert.Kernel.sig) → Buf (Elt Bits) ℓ) : Prop :=
  ∀ c : Dev Cert.Kernel.nD,
    (Cert.Pre_labelled.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labelled : Cert.Pre_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labelled [hPre_labelled : Cert.Pre_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labelled : Cert.Pre_labelled.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labelled [hReferenceIdeal : Cert.ReferenceIdeal.Facts] [hPre_labelled : Cert.Pre_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labelled : Cert.Pre_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labelled : Cert.Pre_labelled.Facts),
    quiescent_Kernel (hKernel := hKernel) (hPre_labelled := hPre_labelled)
    ∧ quiescent_KernelIdeal (hKernelIdeal := hKernelIdeal) (hPre_labelled := hPre_labelled)
    ∧ quiescent_ReferenceIdeal (hReferenceIdeal := hReferenceIdeal)
    ∧ quiescent_ReferenceIdeal_pre_labelled (hReferenceIdeal := hReferenceIdeal) (hPre_labelled := hPre_labelled)
    ∧ preserves_Kernel_KernelIdeal
    ∧ algebraic_KernelIdeal_ReferenceIdeal (hKernelIdeal := hKernelIdeal) (hReferenceIdeal := hReferenceIdeal) (hPre_labelled := hPre_labelled)
-- ==== Pre_labelled.lean ====
abbrev S8x2 : Shape := ⟨2, ![8, 2]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x2 .f32) (main_arg1 : IVec S8 32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 10#32
  let main_v2 : IVec S8 32 := broadcastInDim S8 ![] bcast_S_S8 main_c_0
  let main_v3 : IVec S8 1 := cmpi .slt main_arg1 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S8x2 : Shape := ⟨2, ![8, 2]⟩
abbrev S8 : Shape := ⟨1, ![8]⟩
abbrev S10x1000x1000 : Shape := ⟨3, ![10, 1000, 1000]⟩
abbrev S10x200x1000 : Shape := ⟨3, ![10, 200, 1000]⟩
abbrev S1x1000 : Shape := ⟨2, ![1, 1000]⟩
abbrev S1x1 : Shape := ⟨2, ![1, 1]⟩
abbrev S1 : Shape := ⟨1, ![1]⟩
abbrev S1x1x1000 : Shape := ⟨3, ![1, 1, 1000]⟩
abbrev S1000x1000x10 : Shape := ⟨3, ![1000, 1000, 10]⟩

abbrev nBuf : Space → Nat
  | .hbm => 4
  | .vmem => 2
  | .smem => 2
  | _ => 0

abbrev bufTy : (tb : Table) → Fin (tcTables nBuf tb) → BufTy
  | .hbm, ⟨0, _⟩ => ⟨S8x2, .f32⟩
  | .hbm, ⟨1, _⟩ => ⟨S8, .i32⟩
  | .hbm, ⟨2, _⟩ => ⟨S10x1000x1000, .f32⟩
  | .hbm, ⟨3, _⟩ => ⟨S1000x1000x10, .f32⟩
  | .local _ .vmem, ⟨0, _⟩ => ⟨S10x200x1000, .f32⟩
  | .local _ .vmem, ⟨1, _⟩ => ⟨S10x200x1000, .f32⟩
  | .local _ .smem, ⟨0, _⟩ => ⟨S8x2, .f32⟩
  | .local _ .smem, ⟨1, _⟩ => ⟨S8, .i32⟩
  | _, _ => ⟨S8x2, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg2_0 : Ref sig .tc := ⟨.vmem, 0, rfl⟩
abbrev cc0_stg2_1 : Ref sig .tc := ⟨.vmem, 1, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![5], ![false]⟩

def k0_off1 (i : grid0.Coords) (v8 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v8 v0
  let v155 : Index := Scalar.indexCast v148
  let c0_59 : Index := 0#32
  ![v154.toNat, v155.toNat, 0]
def k0_cond1 (i : grid0.Coords) (v8 : BitVec 32) (v11 : BitVec 1) (v13 : BitVec 1) : BitVec 1 :=
  let v14 : BitVec 1 := Scalar.andi v11 v13
  let arg0 : BitVec 32 := BitVec.ofNat 32 (i 0).val
  let c200_i32 : BitVec 32 := 200#32
  let v0 : BitVec 32 := Scalar.muli arg0 c200_i32
  let v15 : BitVec 1 := Scalar.cmpi .sge v8 v0
  let v16 : BitVec 1 := Scalar.andi v14 v15
  let c200_i32_7 : BitVec 32 := 200#32
  let v17 : BitVec 32 := Scalar.addi v0 c200_i32_7
  let v18 : BitVec 1 := Scalar.cmpi .slt v8 v17
  let v19 : BitVec 1 := Scalar.andi v16 v18
  let v20 : BitVec 32 := Scalar.extui v19
  let c0_i32 : BitVec 32 := 0#32
  let v21 : BitVec 1 := Scalar.cmpi .ne v20 c0_i32
  v21

def k0_chk1 (i : grid0.Coords) (v8 : BitVec 32) (v11 : BitVec 1) (v13 : BitVec 1) (v153 : BitVec 32) : Prop :=
  (∀ (k0_h1 : k0_cond1 i v8 v11 v13 = 1#1), ∀ a, (k0_off1 i v8 v153) a + S1x1x1000.size a ≤ S10x200x1000.size a)
theorem k0_off1_inb : ∀ (i : grid0.Coords) (v8 : BitVec 32) (v11 : BitVec 1) (v13 : BitVec 1) (v153 : BitVec 32) (k0_hw1 : k0_chk1 i v8 v11 v13 v153), ∀ (k0_h1 : k0_cond1 i v8 v11 v13 = 1#1), ∀ a, (k0_off1 i v8 v153) a + S1x1x1000.size a ≤ S10x200x1000.size a := fun i v8 v11 v13 v153 k0_hw1 k0_h1 => k0_hw1 k0_h1

def k0_off2 (i : grid0.Coords) (v8 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v8 v0
  let v161 : Index := Scalar.indexCast v148
  let c0_61 : Index := 0#32
  ![v160.toNat, v161.toNat, 0]

def k0_chk2 (i : grid0.Coords) (v8 : BitVec 32) (v11 : BitVec 1) (v13 : BitVec 1) (v159 : BitVec 32) : Prop :=
  (∀ (k0_h1 : k0_cond1 i v8 v11 v13 = 1#1), ∀ a, (k0_off2 i v8 v159) a + S1x1x1000.size a ≤ S10x200x1000.size a)
theorem k0_off2_inb : ∀ (i : grid0.Coords) (v8 : BitVec 32) (v11 : BitVec 1) (v13 : BitVec 1) (v159 : BitVec 32) (k0_hw2 : k0_chk2 i v8 v11 v13 v159), ∀ (k0_h1 : k0_cond1 i v8 v11 v13 = 1#1), ∀ a, (k0_off2 i v8 v159) a + S1x1x1000.size a ≤ S10x200x1000.size a := fun i v8 v11 v13 v159 k0_hw2 k0_h1 => k0_hw2 k0_h1

def k0_off3 (i : grid0.Coords) (v26 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v26 v0
  let v155 : Index := Scalar.indexCast v148
  let c0_59 : Index := 0#32
  ![v154.toNat, v155.toNat, 0]
def k0_cond2 (i : grid0.Coords) (v26 : BitVec 32) (v29 : BitVec 1) (v31 : BitVec 1) : BitVec 1 :=
  let v32 : BitVec 1 := Scalar.andi v29 v31
  let arg0 : BitVec 32 := BitVec.ofNat 32 (i 0).val
  let c200_i32 : BitVec 32 := 200#32
  let v0 : BitVec 32 := Scalar.muli arg0 c200_i32
  let v33 : BitVec 1 := Scalar.cmpi .sge v26 v0
  let v34 : BitVec 1 := Scalar.andi v32 v33
  let c200_i32_14 : BitVec 32 := 200#32
  let v35 : BitVec 32 := Scalar.addi v0 c200_i32_14
  let v36 : BitVec 1 := Scalar.cmpi .slt v26 v35
  let v37 : BitVec 1 := Scalar.andi v34 v36
  let v38 : BitVec 32 := Scalar.extui v37
  let c0_i32_15 : BitVec 32 := 0#32
  let v39 : BitVec 1 := Scalar.cmpi .ne v38 c0_i32_15
  v39

def k0_chk3 (i : grid0.Coords) (v26 : BitVec 32) (v29 : BitVec 1) (v31 : BitVec 1) (v153 : BitVec 32) : Prop :=
  (∀ (k0_h2 : k0_cond2 i v26 v29 v31 = 1#1), ∀ a, (k0_off3 i v26 v153) a + S1x1x1000.size a ≤ S10x200x1000.size a)
theorem k0_off3_inb : ∀ (i : grid0.Coords) (v26 : BitVec 32) (v29 : BitVec 1) (v31 : BitVec 1) (v153 : BitVec 32) (k0_hw3 : k0_chk3 i v26 v29 v31 v153), ∀ (k0_h2 : k0_cond2 i v26 v29 v31 = 1#1), ∀ a, (k0_off3 i v26 v153) a + S1x1x1000.size a ≤ S10x200x1000.size a := fun i v26 v29 v31 v153 k0_hw3 k0_h2 => k0_hw3 k0_h2

def k0_off4 (i : grid0.Coords) (v26 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v26 v0
  let v161 : Index := Scalar.indexCast v148
  let c0_61 : Index := 0#32
  ![v160.toNat, v161.toNat, 0]

def k0_chk4 (i : grid0.Coords) (v26 : BitVec 32) (v29 : BitVec 1) (v31 : BitVec 1) (v159 : BitVec 32) : Prop :=
  (∀ (k0_h2 : k0_cond2 i v26 v29 v31 = 1#1), ∀ a, (k0_off4 i v26 v159) a + S1x1x1000.size a ≤ S10x200x1000.size a)
theorem k0_off4_inb : ∀ (i : grid0.Coords) (v26 : BitVec 32) (v29 : BitVec 1) (v31 : BitVec 1) (v159 : BitVec 32) (k0_hw4 : k0_chk4 i v26 v29 v31 v159), ∀ (k0_h2 : k0_cond2 i v26 v29 v31 = 1#1), ∀ a, (k0_off4 i v26 v159) a + S1x1x1000.size a ≤ S10x200x1000.size a := fun i v26 v29 v31 v159 k0_hw4 k0_h2 => k0_hw4 k0_h2

def k0_off5 (i : grid0.Coords) (v44 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v44 v0
  let v155 : Index := Scalar.indexCast v148
  let c0_59 : Index := 0#32
  ![v154.toNat, v155.toNat, 0]
def k0_cond3 (i : grid0.Coords) (v44 : BitVec 32) (v47 : BitVec 1) (v49 : BitVec 1) : BitVec 1 :=
  let v50 : BitVec 1 := Scalar.andi v47 v49
  let arg0 : BitVec 32 := BitVec.ofNat 32 (i 0).val
  let c200_i32 : BitVec 32 := 200#32
  let v0 : BitVec 32 := Scalar.muli arg0 c200_i32
  let v51 : BitVec 1 := Scalar.cmpi .sge v44 v0
  let v52 : BitVec 1 := Scalar.andi v50 v51
  let c200_i32_21 : BitVec 32 := 200#32
  let v53 : BitVec 32 := Scalar.addi v0 c200_i32_21
  let v54 : BitVec 1 := Scalar.cmpi .slt v44 v53
  let v55 : BitVec 1 := Scalar.andi v52 v54
  let v56 : BitVec 32 := Scalar.extui v55
  let c0_i32_22 : BitVec 32 := 0#32
  let v57 : BitVec 1 := Scalar.cmpi .ne v56 c0_i32_22
  v57

def k0_chk5 (i : grid0.Coords) (v44 : BitVec 32) (v47 : BitVec 1) (v49 : BitVec 1) (v153 : BitVec 32) : Prop :=
  (∀ (k0_h3 : k0_cond3 i v44 v47 v49 = 1#1), ∀ a, (k0_off5 i v44 v153) a + S1x1x1000.size a ≤ S10x200x1000.size a)
theorem k0_off5_inb : ∀ (i : grid0.Coords) (v44 : BitVec 32) (v47 : BitVec 1) (v49 : BitVec 1) (v153 : BitVec 32) (k0_hw5 : k0_chk5 i v44 v47 v49 v153), ∀ (k0_h3 : k0_cond3 i v44 v47 v49 = 1#1), ∀ a, (k0_off5 i v44 v153) a + S1x1x1000.size a ≤ S10x200x1000.size a := fun i v44 v47 v49 v153 k0_hw5 k0_h3 => k0_hw5 k0_h3

def k0_off6 (i : grid0.Coords) (v44 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v44 v0
  let v161 : Index := Scalar.indexCast v148
  let c0_61 : Index := 0#32
  ![v160.toNat, v161.toNat, 0]

def k0_chk6 (i : grid0.Coords) (v44 : BitVec 32) (v47 : BitVec 1) (v49 : BitVec 1) (v159 : BitVec 32) : Prop :=
  (∀ (k0_h3 : k0_cond3 i v44 v47 v49 = 1#1), ∀ a, (k0_off6 i v44 v159) a + S1x1x1000.size a ≤ S10x200x1000.size a)
theorem k0_off6_inb : ∀ (i : grid0.Coords) (v44 : BitVec 32) (v47 : BitVec 1) (v49 : BitVec 1) (v159 : BitVec 32) (k0_hw6 : k0_chk6 i v44 v47 v49 v159), ∀ (k0_h3 : k0_cond3 i v44 v47 v49 = 1#1), ∀ a, (k0_off6 i v44 v159) a + S1x1x1000.size a ≤ S10x200x1000.size a := fun i v44 v47 v49 v159 k0_hw6 k0_h3 => k0_hw6 k0_h3

def k0_off7 (i : grid0.Coords) (v62 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v62 v0
  let v155 : Index := Scalar.indexCast v148
  let c0_59 : Index := 0#32
  ![v154.toNat, v155.toNat, 0]
def k0_cond4 (i : grid0.Coords) (v62 : BitVec 32) (v65 : BitVec 1) (v67 : BitVec 1) : BitVec 1 :=
  let v68 : BitVec 1 := Scalar.andi v65 v67
  let arg0 : BitVec 32 := BitVec.ofNat 32 (i 0).val
  let c200_i32 : BitVec 32 := 200#32
  let v0 : BitVec 32 := Scalar.muli arg0 c200_i32
  let v69 : BitVec 1 := Scalar.cmpi .sge v62 v0
  let v70 : BitVec 1 := Scalar.andi v68 v69
  let c200_i32_28 : BitVec 32 := 200#32
  let v71 : BitVec 32 := Scalar.addi v0 c200_i32_28
  let v72 : BitVec 1 := Scalar.cmpi .slt v62 v71
  let v73 : BitVec 1 := Scalar.andi v70 v72
  let v74 : BitVec 32 := Scalar.extui v73
  let c0_i32_29 : BitVec 32 := 0#32
  let v75 : BitVec 1 := Scalar.cmpi .ne v74 c0_i32_29
  v75

def k0_chk7 (i : grid0.Coords) (v62 : BitVec 32) (v65 : BitVec 1) (v67 : BitVec 1) (v153 : BitVec 32) : Prop :=
  (∀ (k0_h4 : k0_cond4 i v62 v65 v67 = 1#1), ∀ a, (k0_off7 i v62 v153) a + S1x1x1000.size a ≤ S10x200x1000.size a)
theorem k0_off7_inb : ∀ (i : grid0.Coords) (v62 : BitVec 32) (v65 : BitVec 1) (v67 : BitVec 1) (v153 : BitVec 32) (k0_hw7 : k0_chk7 i v62 v65 v67 v153), ∀ (k0_h4 : k0_cond4 i v62 v65 v67 = 1#1), ∀ a, (k0_off7 i v62 v153) a + S1x1x1000.size a ≤ S10x200x1000.size a := fun i v62 v65 v67 v153 k0_hw7 k0_h4 => k0_hw7 k0_h4

def k0_off8 (i : grid0.Coords) (v62 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v62 v0
  let v161 : Index := Scalar.indexCast v148
  let c0_61 : Index := 0#32
  ![v160.toNat, v161.toNat, 0]

def k0_chk8 (i : grid0.Coords) (v62 : BitVec 32) (v65 : BitVec 1) (v67 : BitVec 1) (v159 : BitVec 32) : Prop :=
  (∀ (k0_h4 : k0_cond4 i v62 v65 v67 = 1#1), ∀ a, (k0_off8 i v62 v159) a + S1x1x1000.size a ≤ S10x200x1000.size a)
theorem k0_off8_inb : ∀ (i : grid0.Coords) (v62 : BitVec 32) (v65 : BitVec 1) (v67 : BitVec 1) (v159 : BitVec 32) (k0_hw8 : k0_chk8 i v62 v65 v67 v159), ∀ (k0_h4 : k0_cond4 i v62 v65 v67 = 1#1), ∀ a, (k0_off8 i v62 v159) a + S1x1x1000.size a ≤ S10x200x1000.size a := fun i v62 v65 v67 v159 k0_hw8 k0_h4 => k0_hw8 k0_h4

def k0_off9 (i : grid0.Coords) (v80 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v80 v0
  let v155 : Index := Scalar.indexCast v148
  let c0_59 : Index := 0#32
  ![v154.toNat, v155.toNat, 0]
def k0_cond5 (i : grid0.Coords) (v80 : BitVec 32) (v83 : BitVec 1) (v85 : BitVec 1) : BitVec 1 :=
  let v86 : BitVec 1 := Scalar.andi v83 v85
  let arg0 : BitVec 32 := BitVec.ofNat 32 (i 0).val
  let c200_i32 : BitVec 32 := 200#32
  let v0 : BitVec 32 := Scalar.muli arg0 c200_i32
  let v87 : BitVec 1 := Scalar.cmpi .sge v80 v0
  let v88 : BitVec 1 := Scalar.andi v86 v87
  let c200_i32_35 : BitVec 32 := 200#32
  let v89 : BitVec 32 := Scalar.addi v0 c200_i32_35
  let v90 : BitVec 1 := Scalar.cmpi .slt v80 v89
  let v91 : BitVec 1 := Scalar.andi v88 v90
  let v92 : BitVec 32 := Scalar.extui v91
  let c0_i32_36 : BitVec 32 := 0#32
  let v93 : BitVec 1 := Scalar.cmpi .ne v92 c0_i32_36
  v93

def k0_chk9 (i : grid0.Coords) (v80 : BitVec 32) (v83 : BitVec 1) (v85 : BitVec 1) (v153 : BitVec 32) : Prop :=
  (∀ (k0_h5 : k0_cond5 i v80 v83 v85 = 1#1), ∀ a, (k0_off9 i v80 v153) a + S1x1x1000.size a ≤ S10x200x1000.size a)
theorem k0_off9_inb : ∀ (i : grid0.Coords) (v80 : BitVec 32) (v83 : BitVec 1) (v85 : BitVec 1) (v153 : BitVec 32) (k0_hw9 : k0_chk9 i v80 v83 v85 v153), ∀ (k0_h5 : k0_cond5 i v80 v83 v85 = 1#1), ∀ a, (k0_off9 i v80 v153) a + S1x1x1000.size a ≤ S10x200x1000.size a := fun i v80 v83 v85 v153 k0_hw9 k0_h5 => k0_hw9 k0_h5

def k0_off10 (i : grid0.Coords) (v80 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v80 v0
  let v161 : Index := Scalar.indexCast v148
  let c0_61 : Index := 0#32
  ![v160.toNat, v161.toNat, 0]

def k0_chk10 (i : grid0.Coords) (v80 : BitVec 32) (v83 : BitVec 1) (v85 : BitVec 1) (v159 : BitVec 32) : Prop :=
  (∀ (k0_h5 : k0_cond5 i v80 v83 v85 = 1#1), ∀ a, (k0_off10 i v80 v159) a + S1x1x1000.size a ≤ S10x200x1000.size a)
theorem k0_off10_inb : ∀ (i : grid0.Coords) (v80 : BitVec 32) (v83 : BitVec 1) (v85 : BitVec 1) (v159 : BitVec 32) (k0_hw10 : k0_chk10 i v80 v83 v85 v159), ∀ (k0_h5 : k0_cond5 i v80 v83 v85 = 1#1), ∀ a, (k0_off10 i v80 v159) a + S1x1x1000.size a ≤ S10x200x1000.size a := fun i v80 v83 v85 v159 k0_hw10 k0_h5 => k0_hw10 k0_h5

def k0_off11 (i : grid0.Coords) (v98 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v98 v0
  let v155 : Index := Scalar.indexCast v148
  let c0_59 : Index := 0#32
  ![v154.toNat, v155.toNat, 0]
def k0_cond6 (i : grid0.Coords) (v98 : BitVec 32) (v101 : BitVec 1) (v103 : BitVec 1) : BitVec 1 :=
  let v104 : BitVec 1 := Scalar.andi v101 v103
  let arg0 : BitVec 32 := BitVec.ofNat 32 (i 0).val
  let c200_i32 : BitVec 32 := 200#32
  let v0 : BitVec 32 := Scalar.muli arg0 c200_i32
  let v105 : BitVec 1 := Scalar.cmpi .sge v98 v0
  let v106 : BitVec 1 := Scalar.andi v104 v105
  let c200_i32_42 : BitVec 32 := 200#32
  let v107 : BitVec 32 := Scalar.addi v0 c200_i32_42
  let v108 : BitVec 1 := Scalar.cmpi .slt v98 v107
  let v109 : BitVec 1 := Scalar.andi v106 v108
  let v110 : BitVec 32 := Scalar.extui v109
  let c0_i32_43 : BitVec 32 := 0#32
  let v111 : BitVec 1 := Scalar.cmpi .ne v110 c0_i32_43
  v111

def k0_chk11 (i : grid0.Coords) (v98 : BitVec 32) (v101 : BitVec 1) (v103 : BitVec 1) (v153 : BitVec 32) : Prop :=
  (∀ (k0_h6 : k0_cond6 i v98 v101 v103 = 1#1), ∀ a, (k0_off11 i v98 v153) a + S1x1x1000.size a ≤ S10x200x1000.size a)
theorem k0_off11_inb : ∀ (i : grid0.Coords) (v98 : BitVec 32) (v101 : BitVec 1) (v103 : BitVec 1) (v153 : BitVec 32) (k0_hw11 : k0_chk11 i v98 v101 v103 v153), ∀ (k0_h6 : k0_cond6 i v98 v101 v103 = 1#1), ∀ a, (k0_off11 i v98 v153) a + S1x1x1000.size a ≤ S10x200x1000.size a := fun i v98 v101 v103 v153 k0_hw11 k0_h6 => k0_hw11 k0_h6

def k0_off12 (i : grid0.Coords) (v98 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v98 v0
  let v161 : Index := Scalar.indexCast v148
  let c0_61 : Index := 0#32
  ![v160.toNat, v161.toNat, 0]

def k0_chk12 (i : grid0.Coords) (v98 : BitVec 32) (v101 : BitVec 1) (v103 : BitVec 1) (v159 : BitVec 32) : Prop :=
  (∀ (k0_h6 : k0_cond6 i v98 v101 v103 = 1#1), ∀ a, (k0_off12 i v98 v159) a + S1x1x1000.size a ≤ S10x200x1000.size a)
theorem k0_off12_inb : ∀ (i : grid0.Coords) (v98 : BitVec 32) (v101 : BitVec 1) (v103 : BitVec 1) (v159 : BitVec 32) (k0_hw12 : k0_chk12 i v98 v101 v103 v159), ∀ (k0_h6 : k0_cond6 i v98 v101 v103 = 1#1), ∀ a, (k0_off12 i v98 v159) a + S1x1x1000.size a ≤ S10x200x1000.size a := fun i v98 v101 v103 v159 k0_hw12 k0_h6 => k0_hw12 k0_h6

def k0_off13 (i : grid0.Coords) (v116 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v116 v0
  let v155 : Index := Scalar.indexCast v148
  let c0_59 : Index := 0#32
  ![v154.toNat, v155.toNat, 0]
def k0_cond7 (i : grid0.Coords) (v116 : BitVec 32) (v119 : BitVec 1) (v121 : BitVec 1) : BitVec 1 :=
  let v122 : BitVec 1 := Scalar.andi v119 v121
  let arg0 : BitVec 32 := BitVec.ofNat 32 (i 0).val
  let c200_i32 : BitVec 32 := 200#32
  let v0 : BitVec 32 := Scalar.muli arg0 c200_i32
  let v123 : BitVec 1 := Scalar.cmpi .sge v116 v0
  let v124 : BitVec 1 := Scalar.andi v122 v123
  let c200_i32_49 : BitVec 32 := 200#32
  let v125 : BitVec 32 := Scalar.addi v0 c200_i32_49
  let v126 : BitVec 1 := Scalar.cmpi .slt v116 v125
  let v127 : BitVec 1 := Scalar.andi v124 v126
  let v128 : BitVec 32 := Scalar.extui v127
  let c0_i32_50 : BitVec 32 := 0#32
  let v129 : BitVec 1 := Scalar.cmpi .ne v128 c0_i32_50
  v129

def k0_chk13 (i : grid0.Coords) (v116 : BitVec 32) (v119 : BitVec 1) (v121 : BitVec 1) (v153 : BitVec 32) : Prop :=
  (∀ (k0_h7 : k0_cond7 i v116 v119 v121 = 1#1), ∀ a, (k0_off13 i v116 v153) a + S1x1x1000.size a ≤ S10x200x1000.size a)
theorem k0_off13_inb : ∀ (i : grid0.Coords) (v116 : BitVec 32) (v119 : BitVec 1) (v121 : BitVec 1) (v153 : BitVec 32) (k0_hw13 : k0_chk13 i v116 v119 v121 v153), ∀ (k0_h7 : k0_cond7 i v116 v119 v121 = 1#1), ∀ a, (k0_off13 i v116 v153) a + S1x1x1000.size a ≤ S10x200x1000.size a := fun i v116 v119 v121 v153 k0_hw13 k0_h7 => k0_hw13 k0_h7

def k0_off14 (i : grid0.Coords) (v116 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v116 v0
  let v161 : Index := Scalar.indexCast v148
  let c0_61 : Index := 0#32
  ![v160.toNat, v161.toNat, 0]

def k0_chk14 (i : grid0.Coords) (v116 : BitVec 32) (v119 : BitVec 1) (v121 : BitVec 1) (v159 : BitVec 32) : Prop :=
  (∀ (k0_h7 : k0_cond7 i v116 v119 v121 = 1#1), ∀ a, (k0_off14 i v116 v159) a + S1x1x1000.size a ≤ S10x200x1000.size a)
theorem k0_off14_inb : ∀ (i : grid0.Coords) (v116 : BitVec 32) (v119 : BitVec 1) (v121 : BitVec 1) (v159 : BitVec 32) (k0_hw14 : k0_chk14 i v116 v119 v121 v159), ∀ (k0_h7 : k0_cond7 i v116 v119 v121 = 1#1), ∀ a, (k0_off14 i v116 v159) a + S1x1x1000.size a ≤ S10x200x1000.size a := fun i v116 v119 v121 v159 k0_hw14 k0_h7 => k0_hw14 k0_h7

def k0_off15 (i : grid0.Coords) (v134 : BitVec 32) (v153 : BitVec 32) : Fin 3 → Nat :=
  let v154 : Index := Scalar.indexCast v153
  let arg0 : BitVec 32 := BitVec.ofNat 32 (i 0).val
  let c200_i32 : BitVec 32 := 200#32
  let v0 : BitVec 32 := Scalar.muli arg0 c200_i32
  let v148 : BitVec 32 := Scalar.subi v134 v0
  let v155 : Index := Scalar.indexCast v148
  let c0_59 : Index := 0#32
  ![v154.toNat, v155.toNat, 0]
def k0_cond8 (i : grid0.Coords) (v134 : BitVec 32) (v137 : BitVec 1) (v139 : BitVec 1) : BitVec 1 :=
  let v140 : BitVec 1 := Scalar.andi v137 v139
  let arg0 : BitVec 32 := BitVec.ofNat 32 (i 0).val
  let c200_i32 : BitVec 32 := 200#32
  let v0 : BitVec 32 := Scalar.muli arg0 c200_i32
  let v141 : BitVec 1 := Scalar.cmpi .sge v134 v0
  let v142 : BitVec 1 := Scalar.andi v140 v141
  let c200_i32_56 : BitVec 32 := 200#32
  let v143 : BitVec 32 := Scalar.addi v0 c200_i32_56
  let v144 : BitVec 1 := Scalar.cmpi .slt v134 v143
  let v145 : BitVec 1 := Scalar.andi v142 v144
  let v146 : BitVec 32 := Scalar.extui v145
  let c0_i32_57 : BitVec 32 := 0#32
  let v147 : BitVec 1 := Scalar.cmpi .ne v146 c0_i32_57
  v147

def k0_chk15 (i : grid0.Coords) (v134 : BitVec 32) (v137 : BitVec 1) (v139 : BitVec 1) (v153 : BitVec 32) : Prop :=
  (∀ (k0_h8 : k0_cond8 i v134 v137 v139 = 1#1), ∀ a, (k0_off15 i v134 v153) a + S1x1x1000.size a ≤ S10x200x1000.size a)
theorem k0_off15_inb : ∀ (i : grid0.Coords) (v134 : BitVec 32) (v137 : BitVec 1) (v139 : BitVec 1) (v153 : BitVec 32) (k0_hw15 : k0_chk15 i v134 v137 v139 v153), ∀ (k0_h8 : k0_cond8 i v134 v137 v139 = 1#1), ∀ a, (k0_off15 i v134 v153) a + S1x1x1000.size a ≤ S10x200x1000.size a := fun i v134 v137 v139 v153 k0_hw15 k0_h8 => k0_hw15 k0_h8

def k0_off16 (i : grid0.Coords) (v134 : BitVec 32) (v159 : BitVec 32) : Fin 3 → Nat :=
  let v160 : Index := Scalar.indexCast v159
  let arg0 : BitVec 32 := BitVec.ofNat 32 (i 0).val
  let c200_i32 : BitVec 32 := 200#32
  let v0 : BitVec 32 := Scalar.muli arg0 c200_i32
  let v148 : BitVec 32 := Scalar.subi v134 v0
  let v161 : Index := Scalar.indexCast v148
  let c0_61 : Index := 0#32
  ![v160.toNat, v161.toNat, 0]

def k0_chk16 (i : grid0.Coords) (v134 : BitVec 32) (v137 : BitVec 1) (v139 : BitVec 1) (v159 : BitVec 32) : Prop :=
  (∀ (k0_h8 : k0_cond8 i v134 v137 v139 = 1#1), ∀ a, (k0_off16 i v134 v159) a + S1x1x1000.size a ≤ S10x200x1000.size a)
theorem k0_off16_inb : ∀ (i : grid0.Coords) (v134 : BitVec 32) (v137 : BitVec 1) (v139 : BitVec 1) (v159 : BitVec 32) (k0_hw16 : k0_chk16 i v134 v137 v139 v159), ∀ (k0_h8 : k0_cond8 i v134 v137 v139 = 1#1), ∀ a, (k0_off16 i v134 v159) a + S1x1x1000.size a ≤ S10x200x1000.size a := fun i v134 v137 v139 v159 k0_hw16 k0_h8 => k0_hw16 k0_h8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .smem S8x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10x200x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x2 : Shape := ⟨2, ![8, 2]⟩
abbrev S8 : Shape := ⟨1, ![8]⟩
abbrev S8x1 : Shape := ⟨2, ![8, 1]⟩
abbrev S8x1x1 : Shape := ⟨3, ![8, 1, 1]⟩
abbrev S_ : Shape := ⟨0, ![]⟩
abbrev S1000 : Shape := ⟨1, ![1000]⟩
abbrev S1x1x1000 : Shape := ⟨3, ![1, 1, 1000]⟩
abbrev S8x1x1000 : Shape := ⟨3, ![8, 1, 1000]⟩
abbrev S1x1000x1 : Shape := ⟨3, ![1, 1000, 1]⟩
abbrev S8x1000x1 : Shape := ⟨3, ![8, 1000, 1]⟩
abbrev S8x1000x1000 : Shape := ⟨3, ![8, 1000, 1000]⟩
abbrev S1x10 : Shape := ⟨2, ![1, 10]⟩
abbrev S8x10 : Shape := ⟨2, ![8, 10]⟩
abbrev S8x1000x1000x1 : Shape := ⟨4, ![8, 1000, 1000, 1]⟩
abbrev S8x1x1x10 : Shape := ⟨4, ![8, 1, 1, 10]⟩
abbrev S8x1000x1000x10 : Shape := ⟨4, ![8, 1000, 1000, 10]⟩
abbrev S1000x1000x10 : Shape := ⟨3, ![1000, 1000, 10]⟩

abbrev nBuf : Space → Nat
  | .hbm => 81
  | .vmem => 0
  | .smem => 0
  | _ => 0

abbrev bufTy : (tb : Table) → Fin (tcTables nBuf tb) → BufTy
  | .hbm, ⟨0, _⟩ => ⟨S8x2, .f32⟩
  | .hbm, ⟨1, _⟩ => ⟨S8, .i32⟩
  | .hbm, ⟨2, _⟩ => ⟨S8x1, .f32⟩
  | .hbm, ⟨3, _⟩ => ⟨S8, .f32⟩
  | .hbm, ⟨4, _⟩ => ⟨S8x1x1, .f32⟩
  | .hbm, ⟨5, _⟩ => ⟨S_, .f32⟩
  | .hbm, ⟨6, _⟩ => ⟨S8x1x1, .f32⟩
  | .hbm, ⟨7, _⟩ => ⟨S8x1x1, .f32⟩
  | .hbm, ⟨8, _⟩ => ⟨S8x1, .f32⟩
  | .hbm, ⟨9, _⟩ => ⟨S8, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S1000, .f32⟩
  | .hbm, ⟨15, _⟩ => ⟨S1000, .f32⟩
  | .hbm, ⟨16, _⟩ => ⟨S1x1x1000, .f32⟩
  | .hbm, ⟨17, _⟩ => ⟨S8x1x1000, .f32⟩
  | .hbm, ⟨18, _⟩ => ⟨S8x1x1000, .f32⟩
  | .hbm, ⟨19, _⟩ => ⟨S8x1x1000, .f32⟩
  | .hbm, ⟨20, _⟩ => ⟨S_, .f32⟩
  | .hbm, ⟨21, _⟩ => ⟨S8x1x1000, .f32⟩
  | .hbm, ⟨22, _⟩ => ⟨S8x1x1000, .f32⟩
  | .hbm, ⟨23, _⟩ => ⟨S1x1000x1, .f32⟩
  | .hbm, ⟨24, _⟩ => ⟨S8x1000x1, .f32⟩
  | .hbm, ⟨25, _⟩ => ⟨S8x1000x1, .f32⟩
  | .hbm, ⟨26, _⟩ => ⟨S8x1000x1, .f32⟩
  | .hbm, ⟨27, _⟩ => ⟨S_, .f32⟩
  | .hbm, ⟨28, _⟩ => ⟨S8x1000x1, .f32⟩
  | .hbm, ⟨29, _⟩ => ⟨S8x1000x1, .f32⟩
  | .hbm, ⟨30, _⟩ => ⟨S8x1000x1000, .f32⟩
  | .hbm, ⟨31, _⟩ => ⟨S8x1000x1000, .f32⟩
  | .hbm, ⟨32, _⟩ => ⟨S8x1000x1000, .f32⟩
  | .hbm, ⟨33, _⟩ => ⟨S_, .f32⟩
  | .hbm, ⟨34, _⟩ => ⟨S8x1000x1000, .f32⟩
  | .hbm, ⟨35, _⟩ => ⟨S8x1000x1000, .f32⟩
  | .hbm, ⟨36, _⟩ => ⟨S_, .f32⟩
  | .hbm, ⟨37, _⟩ => ⟨S1000, .f32⟩
  | .hbm, ⟨38, _⟩ => ⟨S1000, .f32⟩
  | .hbm, ⟨39, _⟩ => ⟨S1x1x1000, .f32⟩
  | .hbm, ⟨40, _⟩ => ⟨S8x1x1000, .f32⟩
  | .hbm, ⟨41, _⟩ => ⟨S8x1x1000, .f32⟩
  | .hbm, ⟨42, _⟩ => ⟨S8x1x1000, .f32⟩
  | .hbm, ⟨43, _⟩ => ⟨S_, .f32⟩
  | .hbm, ⟨44, _⟩ => ⟨S8x1x1000, .f32⟩
  | .hbm, ⟨45, _⟩ => ⟨S8x1x1000, .f32⟩
  | .hbm, ⟨46, _⟩ => ⟨S_, .f32⟩
  | .hbm, ⟨47, _⟩ => ⟨S1000, .f32⟩
  | .hbm, ⟨48, _⟩ => ⟨S1000, .f32⟩
  | .hbm, ⟨49, _⟩ => ⟨S1x1000x1, .f32⟩
  | .hbm, ⟨50, _⟩ => ⟨S8x1000x1, .f32⟩
  | .hbm, ⟨51, _⟩ => ⟨S8x1000x1, .f32⟩
  | .hbm, ⟨52, _⟩ => ⟨S8x1000x1, .f32⟩
  | .hbm, ⟨53, _⟩ => ⟨S_, .f32⟩
  | .hbm, ⟨54, _⟩ => ⟨S8x1000x1, .f32⟩
  | .hbm, ⟨55, _⟩ => ⟨S8x1000x1, .f32⟩
  | .hbm, ⟨56, _⟩ => ⟨S8x1000x1000, .f32⟩
  | .hbm, ⟨57, _⟩ => ⟨S8x1000x1000, .f32⟩
  | .hbm, ⟨58, _⟩ => ⟨S8x1000x1000, .f32⟩
  | .hbm, ⟨59, _⟩ => ⟨S_, .f32⟩
  | .hbm, ⟨60, _⟩ => ⟨S8x1000x1000, .f32⟩
  | .hbm, ⟨61, _⟩ => ⟨S8x1000x1000, .f32⟩
  | .hbm, ⟨62, _⟩ => ⟨S8x1000x1000, .f32⟩
  | .hbm, ⟨63, _⟩ => ⟨S_, .f32⟩
  | .hbm, ⟨64, _⟩ => ⟨S8x1000x1000, .f32⟩
  | .hbm, ⟨65, _⟩ => ⟨S8x1000x1000, .i1⟩
  | .hbm, ⟨66, _⟩ => ⟨S8x1000x1000, .f32⟩
  | .hbm, ⟨67, _⟩ => ⟨S8x1, .i32⟩
  | .hbm, ⟨68, _⟩ => ⟨S1x10, .i32⟩
  | .hbm, ⟨69, _⟩ => ⟨S8x10, .i32⟩
  | .hbm, ⟨70, _⟩ => ⟨S8x10, .i32⟩
  | .hbm, ⟨71, _⟩ => ⟨S8x10, .i1⟩
  | .hbm, ⟨72, _⟩ => ⟨S8x10, .f32⟩
  | .hbm, ⟨73, _⟩ => ⟨S8x1000x1000x1, .f32⟩
  | .hbm, ⟨74, _⟩ => ⟨S8x1x1x10, .f32⟩
  | .hbm, ⟨75, _⟩ => ⟨S8x1000x1000x10, .f32⟩
  | .hbm, ⟨76, _⟩ => ⟨S8x1000x1000x10, .f32⟩
  | .hbm, ⟨77, _⟩ => ⟨S8x1000x1000x10, .f32⟩
  | .hbm, ⟨78, _⟩ => ⟨S8x1000x1000x10, .f32⟩
  | .hbm, ⟨79, _⟩ => ⟨S_, .f32⟩
  | .hbm, ⟨80, _⟩ => ⟨S1000x1000x10, .f32⟩
  | _, _ => ⟨S8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_cst : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call1_cst : Ref sig .tc := ⟨.hbm, 27, rfl⟩
abbrev main_call1_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call2_cst : Ref sig .tc := ⟨.hbm, 33, rfl⟩
abbrev main_call2_v0 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call3_cst : Ref sig .tc := ⟨.hbm, 43, rfl⟩
abbrev main_call3_v0 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call4_cst : Ref sig .tc := ⟨.hbm, 53, rfl⟩
abbrev main_call4_v0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call5_cst : Ref sig .tc := ⟨.hbm, 59, rfl⟩
abbrev main_call5_v0 : Ref sig .tc := ⟨.hbm, 60, rfl⟩
abbrev main_v43 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call6_v0 : Ref sig .tc := ⟨.hbm, 67, rfl⟩
abbrev main_call6_v1 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_4 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Proof.Labels.lean ====
module

public import proofs.«01_k».proof.Pre_labelled
public import Idealize.ShloMosaic.Lib.ReduceAll
public import Idealize.ShloMosaic.Lib.WordCmp

@[expose] public section

namespace Cert.Pre_labelled

open Idealize.ShloMosaic

variable {F : FTy → Type} [FloatOps F] [Facts]

instance : Subsingleton S_.Idx := ⟨fun a b => funext fun i => i.elim0⟩

/-- The precondition, read: every label's word, as an unsigned number, is below ten. -/
theorem below_ten (z : FVec F S8x2 .f32) (lab : IVec S8 32) (h : fn z lab = fun _ => 1#1) (y : S8.Idx) : (lab y).toNat < 10 := by
  have e := Host.reduce_andi_all _ _ _ _ _ (congrFun h (fun i => i.elim0)) y
  have h2 : ∀ a b : BitVec 1, a &&& b = 1#1 → a = 1#1 ∧ b = 1#1 := by decide
  obtain ⟨hge, hlt⟩ := h2 _ _ e
  have g : (0#32).toInt ≤ (lab y).toInt := IntOp.cmpi_sge.1 hge
  have l : (lab y).toInt < (10#32).toInt := IntOp.cmpi_slt.1 hlt
  have hb := (lab y).isLt
  simp only [BitVec.toInt, BitVec.toNat_ofNat] at g l
  omega

end Cert.Pre_labelled
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The output block's contents as a function of its index. -/
abbrev Blk (F : FTy → Type) := S10x200x1000.Idx → Elt F .f32

/-- The block `X` with the row at `off` replaced by `pay` of it when `C` holds and the row lies in the block. -/
def putIf (C : Prop) [Decidable C] (off : Fin 3 → Nat) (pay : Vec F S1x1x1000 .f32 → FVec F S1x1x1000 .f32) (X : Blk F) : Blk F :=
  if h : C ∧ ∀ a, off a + S1x1x1000.size a ≤ S10x200x1000.size a then
    VecWindow.put X off S1x1x1000.size (pay (VecWindow.window (s := S10x200x1000) X off S1x1x1000.size h.2))
  else X

/-- One guarded row update of the body, whatever follows it: from the output block at `X`, the guarded region leaves it
    at `putIf … X` and goes on to `J`. The region reads the label's word twice; both reads are `l`. -/
theorem wp_putIf {α : Type} {c : Dev nD} {arg2 : Memref sig .tc .smem S8 .i32} {arg3 : Memref sig .tc .vmem S10x200x1000 .f32}
    {f2 : BufTy.Contents (Elt F) arg2.view.ty} {X : Blk F} {r : Rect S8} {h1 : r.shape.numel = 1} {hp : EltTy.i32.packing = 1} {C : Prop} {dC : Decidable C}
    {chk chk' : BitVec 32 → Prop} {dec : ∀ v, Decidable (chk v)} {dec' : ∀ v, Decidable (chk' v)} {off off' : BitVec 32 → Fin 3 → Nat}
    {inb : ∀ v, chk v → C → ∀ a, off v a + S1x1x1000.size a ≤ S10x200x1000.size a}
    {inb' : ∀ v, chk' v → C → ∀ a, off' v a + S1x1x1000.size a ≤ S10x200x1000.size a}
    {pay : Vec F S1x1x1000 .f32 → FVec F S1x1x1000 .f32} {J : Prog (TpuEff nD τ sig (Elt F) Λ₀ .tc) α} {W : Waits sig Unit} {K : α → sProp 𝕄}
    {l : BitVec 32} (hl : (arg2.access r).read (Elt F) f2 (Shape.Idx.first (h1.symm ▸ Nat.one_pos)) = l)
    (hchk : chk l) (hchk' : chk' l) (hoff : off' l = off l) :
    iprop((arg2.view.loc (c : Thread nD τ) ↦[arg2.view.set]{fullShare} f2) ∗ (arg3.view.loc (c : Thread nD τ) ↦[arg3.view.set]{fullShare} arg3.view.rep X)
        ∗ owes (c : Thread nD τ) 0 W
        ∗ (iprop((arg2.view.loc (c : Thread nD τ) ↦[arg2.view.set]{fullShare} f2)
              ∗ (arg3.view.loc (c : Thread nD τ) ↦[arg3.view.set]{fullShare} arg3.view.rep (putIf C (off l) pay X))
              ∗ owes (c : Thread nD τ) 0 W) -∗ wp frame (wpE (defs₀ (F := F)) Variants.none c none) Set.univ J K))
      ⊢ wp frame (wpE (defs₀ (F := F)) Variants.none c none) Set.univ
          (if h : C then do
            let v ← smemLoad arg2 r h1 hp
            have hw : chk v := (← Prog.lift (TpuEff.assume (chk v) (dec v))).down
            let x ← Prog.lift (.load arg3 (Rect.unit (s := S10x200x1000) (off v) S1x1x1000.size (inb v hw h)).toLoadRect (View.loadsAt_vmem h_S1x1x1000))
            let v' ← smemLoad arg2 r h1 hp
            have hw' : chk' v' := (← Prog.lift (TpuEff.assume (chk' v') (dec' v'))).down
            let _ ← Prog.lift (.load arg3 (Rect.unit (s := S10x200x1000) (off' v') S1x1x1000.size (inb' v' hw' h)).toLoadRect (View.loadsAt_vmem h_S1x1x1000))
            Prog.lift (.store arg3 (Rect.unit (s := S10x200x1000) (off' v') S1x1x1000.size (inb' v' hw' h)) (pay x) Finset.univ
              (View.stores_vmem_bits_univ h_S1x1x1000 rfl) (.inl rfl))
            J
          else J) K := by
  by_cases hC : C
  · rw [dif_pos hC]
    iintro ⟨H2, H3, HW, Hk⟩
    subst hl
    sl_exec
    iapply Hk
    have e : ∀ z : Elt F .i32, z = (arg2.access r).read (Elt F) f2 (Shape.Idx.first (h1.symm ▸ Nat.one_pos)) →
        ∀ (i₁ : ∀ a, off z a + S1x1x1000.size a ≤ S10x200x1000.size a) (i₂ : ∀ a, off' z a + S1x1x1000.size a ≤ S10x200x1000.size a),
        arg3.view.read (Elt F) (arg3.view.writes (Elt F) (arg3.view.rep X)
          [⟨Rect.unit (off' z) S1x1x1000.size i₂, pay (View.readAt (Elt F) arg3.view (Rect.unit (s := S10x200x1000) (off z) S1x1x1000.size i₁).toLoadRect (arg3.view.rep X))⟩])
          = putIf C (off ((arg2.access r).read (Elt F) f2 (Shape.Idx.first (h1.symm ▸ Nat.one_pos)))) pay X := by
      rintro z rfl i₁ i₂
      rw [View.read_writes_cons_put (h := hoff), View.readAt_rep_unit (h := rfl) (inb' := i₁), putIf, dif_pos ⟨hC, i₁⟩]
      simp only [View.writes, View.read_rep]
    iframe H2 HW
    iapply (pointsTo_rep_of_read (c : Thread nD τ) arg3 _ fullShare _ (e wp_putIf.sl.r rfl _ _)) $$ H3
  · rw [dif_neg hC]
    iintro ⟨H2, H3, HW, Hk⟩
    iapply Hk
    rw [putIf, dif_neg (fun h => hC h.1)]
    iframe H2 H3 HW

/-- The first row of a grid point's block, as the body's word arithmetic computes it: no wrap-around. -/
theorem base_toInt (i : grid0.Coords) : (Scalar.muli (BitVec.ofNat 32 (i 0).val) 200#32).toInt = 200 * ((i 0).val : ℤ)
    ∧ (Scalar.addi (Scalar.muli (BitVec.ofNat 32 (i 0).val) 200#32) 200#32).toInt = 200 * ((i 0).val : ℤ) + 200 := by
  have h : ∀ n : Fin 5, (Scalar.muli (BitVec.ofNat 32 n.val) 200#32).toInt = 200 * (n.val : ℤ)
      ∧ (Scalar.addi (Scalar.muli (BitVec.ofNat 32 n.val) 200#32) 200#32).toInt = 200 * (n.val : ℤ) + 200 := by decide
  exact h (i 0)

/-- The condition of a guarded region: both strict inequalities hold and the row lies in the grid point's block of 200 rows. -/
theorem cond_iff (i : grid0.Coords) (v8 : BitVec 32) (v11 v13 : BitVec 1) :
    k0_cond1 i v8 v11 v13 = 1#1 ↔ v11 = 1#1 ∧ v13 = 1#1 ∧ 200 * ((i 0).val : ℤ) ≤ v8.toInt ∧ v8.toInt < 200 * ((i 0).val : ℤ) + 200 := by
  have h1 : ∀ b : BitVec 1, Scalar.cmpi .ne (Scalar.extui b) 0#32 = 1#1 ↔ b = 1#1 := by decide
  have h2 : ∀ a b : BitVec 1, Scalar.andi a b = 1#1 ↔ a = 1#1 ∧ b = 1#1 := by decide
  obtain ⟨e1, e2⟩ := base_toInt i
  unfold k0_cond1
  simp only [h1, h2]
  rw [show ∀ x y : BitVec 32, Scalar.cmpi .sge x y = 1#1 ↔ y.toInt ≤ x.toInt from fun x y => IntOp.cmpi_sge,
    show ∀ x y : BitVec 32, Scalar.cmpi .slt x y = 1#1 ↔ x.toInt < y.toInt from fun x y => IntOp.cmpi_slt, e1, e2]
  tauto

/-- The row of the block a guarded region touches, when its condition holds. -/
theorem row_eq (i : grid0.Coords) (v8 : BitVec 32) (h : 200 * ((i 0).val : ℤ) ≤ v8.toInt ∧ v8.toInt < 200 * ((i 0).val : ℤ) + 200) :
    ((Scalar.subi v8 (Scalar.muli (BitVec.ofNat 32 (i 0).val) 200#32)).toNat : ℤ) = v8.toInt - 200 * ((i 0).val : ℤ) := by
  obtain ⟨e1, -⟩ := base_toInt i
  have h5 : (i 0).val < 5 := (i 0).isLt
  have e3 := BitVec.toInt_sub (x := v8) (y := Scalar.muli (BitVec.ofNat 32 (i 0).val) 200#32)
  rw [e1, Int.bmod_eq_of_le (by omega) (by omega)] at e3
  have e4 := BitVec.toInt_eq_toNat_cond (v8 - Scalar.muli (BitVec.ofNat 32 (i 0).val) 200#32)
  have e5 := (v8 - Scalar.muli (BitVec.ofNat 32 (i 0).val) 200#32).isLt
  show (((v8 - Scalar.muli (BitVec.ofNat 32 (i 0).val) 200#32).toNat : ℕ) : ℤ) = _
  split at e4 <;> omega

/-- The row accesses of the body stay in the block when the row test passed and the label's word is below ten. -/
theorem chk_of (i : grid0.Coords) (v8 : BitVec 32) (v11 v13 : BitVec 1) (l : BitVec 32) (hl : l.toNat < 10) : k0_chk1 i v8 v11 v13 l := by
  intro h
  obtain ⟨-, -, hr⟩ := (cond_iff i v8 v11 v13).1 h
  have e := row_eq i v8 hr
  have h3 : ∀ (x y : ℕ) (a : Fin 3), x < 10 → y < 200 → (![x, y, 0] : Fin 3 → ℕ) a + S1x1x1000.size a ≤ S10x200x1000.size a := by
    intro x y a hx hy; fin_cases a <;> simp [S1x1x1000, S10x200x1000] <;> omega
  exact fun a => h3 l.toNat (Scalar.subi v8 (Scalar.muli (BitVec.ofNat 32 (i 0).val) 200#32)).toNat a hl (by omega)

/-- One point's update of the output block: `k0_pay11 z0` and `k0_pay12 z1` are the point's scaled coordinates; when the point
    passes the kernel's tests the row it selects of plane `l` gains the indicator of the point's column. -/
def mark (i : grid0.Coords) (z0 z1 : Elt F .f32) (l : BitVec 32) (X : Blk F) : Blk F :=
  putIf (k0_cond1 i (Scalar.fptosi 32 (k0_pay11 z0)) (Scalar.cmpf .ogt (k0_pay11 z0) (k0_pay13 z0)) (Scalar.cmpf .ogt (k0_pay12 z1) (k0_pay14 z1)) = 1#1)
    (k0_off1 i (Scalar.fptosi 32 (k0_pay11 z0)) l) (k0_pay15 z1) X

/-- The index of the `z` block's word `(n, k)`, as the body's word loads spell it. -/
def zIx (n : ℕ) (k : ℕ) (h : ∀ a, (![n, k] : Fin 2 → ℕ) a + S1x1.size a ≤ S8x2.size a) : S8x2.Idx :=
  (Rect.unit (s := S8x2) ![n, k] S1x1.size h).emb (Shape.Idx.first (numel1_S1x1.symm ▸ Nat.one_pos))
/-- The label block's word `n` likewise. -/
def labIx (n : ℕ) (h : ∀ a, (![n] : Fin 1 → ℕ) a + S1.size a ≤ S8.size a) : S8.Idx :=
  (Rect.unit (s := S8) ![n] S1.size h).emb (Shape.Idx.first (numel1_S1.symm ▸ Nat.one_pos))

/-- Those words lie in their blocks. -/
theorem inbZ (n : Fin 8) (k : Fin 2) : ∀ a, (![n.val, k.val] : Fin 2 → ℕ) a + S1x1.size a ≤ S8x2.size a := by
  intro a; fin_cases a <;> simp <;> omega
/-- Those label words lie in their block. -/
theorem inbLab (n : Fin 8) : ∀ a, (![n.val] : Fin 1 → ℕ) a + S1.size a ≤ S8.size a := by
  intro a; fin_cases a; simp; omega

/-- The output block at a grid point: zeros, then the eight points' updates in order. -/
def marks (i : grid0.Coords) (z : S8x2.Idx → Elt F .f32) (lab : S8.Idx → Elt F .i32) : (n : ℕ) → n ≤ 8 → Blk F
  | 0, _ => k0_pay10
  | n + 1, h => mark i (z (zIx n 0 (inbZ ⟨n, h⟩ 0))) (z (zIx n 1 (inbZ ⟨n, h⟩ 1))) (lab (labIx n (inbLab ⟨n, h⟩))) (marks i z lab n (by omega))

set_option sl_exec.stopBefore "Eq" in
/-- The body at a grid point, over any staging buffers whose label words are all below ten: it leaves the two inputs as they
    are and the output block at `marks` of them, whatever it held before. -/
theorem kernelRun (i : grid0.Coords) (c : Dev nD) (arg1 : Memref sig .tc .smem S8x2 .f32) (harg1 : arg1.IsWhole)
    (arg2 : Memref sig .tc .smem S8 .i32) (harg2 : arg2.IsWhole) (arg3 : Memref sig .tc .vmem S10x200x1000 .f32) (harg3 : arg3.IsWhole)
    (f1 : BufTy.Contents (Elt F) arg1.view.ty) (f2 : BufTy.Contents (Elt F) arg2.view.ty) (f3 : BufTy.Contents (Elt F) arg3.view.ty)
    (hlab : ∀ y, (arg2.view.read (Elt F) f2 y : BitVec 32).toNat < 10) (W : Waits sig Unit) (K : PUnit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ owes (c : Thread nD τ) 0 W
        ∗ (iprop((arg1.view.loc (c : Thread nD τ) ↦[arg1.view.set]{fullShare} f1) ∗ (arg2.view.loc (c : Thread nD τ) ↦[arg2.view.set]{fullShare} f2)
          ∗ (arg3.view.loc (c : Thread nD τ) ↦[arg3.view.set]{fullShare} arg3.view.rep (marks i (arg1.view.read (Elt F) f1) (arg2.view.read (Elt F) f2) 8 le_rfl))
          ∗ owes (c : Thread nD τ) 0 W) -∗ K ⟨⟩))
      ⊢ wp frame (wpE (defs₀ (F := F)) Variants.none c none) Set.univ
          (cc0_visual_imitation (F := F) i arg1 harg1 arg2 harg2 arg3 harg3) K := by
  rw [cc0_visual_imitation_eq_skeleton]; unfold cc0_visual_imitation_skel
  simp only [k0_part1_eq_skeleton, k0_part2_eq_skeleton, k0_part3_eq_skeleton]
  unfold k0_part1_skel
  iintro ⟨H1, H2, H3, HW, Hk⟩
  sl_exec
  have z : ∀ g, (arg3.view.loc (c : Thread nD τ) ↦[arg3.view.set]{fullShare} arg3.view.writes (Elt F) g [⟨Rect.unit (s := S10x200x1000) ![0, 0, 0] S10x200x1000.size inb_S10x200x1000_S10x200x1000_0_0_0, k0_pay10 (F := F)⟩] : sProp 𝕄)
      ⊢ arg3.view.loc (c : Thread nD τ) ↦[arg3.view.set]{fullShare} arg3.view.rep (k0_pay10 (F := F)) :=
    fun g => pointsTo_rep_of_read (c : Thread nD τ) arg3 _ fullShare _ (View.read_writes_full ..)
  ihave H3 := (z _) $$ H3
  iterate 8
    try rw [wp_bind]
    iapply (wp_putIf rfl (by exact chk_of _ _ _ _ _ (hlab _)) (by exact chk_of _ _ _ _ _ (hlab _)) rfl)
    iframe H2 H3 HW
    iintro ⟨H2, H3, HW⟩
    sl_exec
  sl_step
  iapply Hk
  iframe H1 H2 HW
  iexact H3

/-! ## The proof data and the body obligation -/

variable (m : (ℓ : Loc nD τ sig) → Buf (Elt F) ℓ) (ρ : Dev nD → PrngReg)

/-- What the body leaves in the output's staging buffer at a point: the marks of the block's `z` and label words. -/
def outAfter (c : Dev nD) (t : Fin cfg0.N) : Blk F := marks (cfg0.grid.coords t) (iblk m c 0 t) (iblk m c 1 t) 8 le_rfl

/-- The proof data on core `c`: each window's array as the region finds it, the inputs' blocks kept, the output's block at `outAfter`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => outAfter m c t
  Φ _ := Pipeline.ΦA spec0 c
  q _ := fullShare
  owed _ := 0

/-- The proof data's arrays are the region's entry contents. -/
theorem A_eq (c : Dev nD) (w : Fin cfg0.W) : (dats m 0 c).A w = V m c (Pipeline.arrRef spec0 w) := by dsimp only [dats]

/-- What the body is called with at point `t`: the three windows' staging buffers, the inputs at their blocks. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- What the body returns: the inputs' staging buffers as they were, the output's at `outAfter`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (outAfter m c t))

/-- Every label's word on every core is below ten. -/
def Labelled : Prop := ∀ (c : Dev nD) (y : S8.Idx), (m ((c : Thread nD τ).loc main_arg1) y : BitVec 32).toNat < 10

/-- The body takes the one to the other. -/
theorem sound_body (hL : Labelled m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  simp only [before0_0_of m (dats m 0 c) (A_eq m c 0) (fun _ => rfl), before0_1_of m (dats m 0 c) (A_eq m c 1) (fun _ => rfl)]
  unfold Dat.owesAt Pipeline.owesWithin owns
  rw [show (dats m 0 c).owed t.castSucc = 0 from rfl]
  iintro ⟨HΦ, ⟨%W, %hW, HO⟩, ⟨%d0, %f1, %e1, H1⟩, ⟨%d1, %f2, %e2, H2⟩, ⟨%d2, %f3, %e3, H3⟩⟩
  have hlab : ∀ y, ((st0_1 t).view.read (Elt F) f2 y : BitVec 32).toNat < 10 := by rw [e2]; exact fun y => hL c _
  iapply (kernelRun (cfg0.grid.coords t) c _ _ _ _ _ _ f1 f2 f3 hlab W _)
  iframe H1 H2 H3 HO
  iintro ⟨H1, H2, H3, HO⟩
  iframe HΦ
  isplitl [HO]
  · iexists W; isplitr; · ipureintro; exact fun _ _ => Or.inl trivial
    iexact HO
  isplitl [H1]
  · iexists f1; isplitr; · ipureintro; exact e1
    iexact H1
  isplitl [H2]
  · iexists f2; isplitr; · ipureintro; exact e2
    iexact H2
  iexists _; isplitr; swap; · iexact H3
  ipureintro
  exact (View.read_rep _ _).trans (by rw [outAfter, e1, e2])

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (hL : Labelled m) (c : Dev nD) :
    BodyObligation (dats (F := F) m 0 c) (defs₀ (F := F)) Variants.none () Set.univ := fun t => by
  rw [bigSep_W0, bigSep_W0, defs₀_row]
  exact triple_restated (sound_body m hL c t) rfl .rfl fun _ => .rfl

/-! ## The launch -/

-- the launch theorem's implicit arguments are found by unifying its conclusion with this statement, which unifies only
-- when unification may unfold plain definitions in a metavariable's type
set_option backward.isDefEq.respectTransparency.types false in
/-- From any memory whose labels are all below ten, with zero counters: every execution of @main terminates, and every final state
    has the windows' arrays as `dats` says, everything else as the host operation after the region leaves it, and zero counters. -/
theorem run_main (hL : Labelled m) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m hL c).loose) (hshare := fun c => (dats m 0 c).share_full fun _ => rfl)
    (howed := fun _ _ => rfl) (V₀ := V0 m) (opss := [hostOps1]) (hsub := sfx_sub) (hfresh := sfx_fresh) (hkeep := sfx_keeps)
    (hmain := Gen.hmain m Variants.none) (hA := A_eq m) (hΦ := fun _ _ => rfl)

/-- The frame: the run terminates with the arguments as they were and every counter at zero. -/
theorem run_frame (hL : Labelled m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1))⟩, h.2⟩) (run_main m ρ hL)

end Cert.KernelIdeal.Hand
-- ==== Proof.Twin.lean ====
module

public import proofs.«01_k».proof.Defs
public import proofs.«01_k».proof.Proof.Gen.Kernel
public import proofs.«01_k».proof.Proof.Body

@[expose] public section

set_option maxRecDepth 100000

noncomputable section

namespace Cert.Hand

open Idealize.ShloMosaic Idealize.SL.Sem

/-- The printed kernel and its ideal reading are one text: at float words their body tables are equal. -/
theorem bodies_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => ?_)
  match l with
  | 0 => rfl
  | ⟨_ + 1, h⟩ => exact absurd h (Nat.not_lt.2 (Nat.le_add_left _ _))

/-- And so are the pipelines' tables over them. -/
theorem tables_eq : Cert.Kernel.defs (F := Bits) = Cert.KernelIdeal.defs (F := Bits) :=
  congrArg (Pipeline.defs (Cert.KernelIdeal.pcfgs (F := Bits))) bodies_eq

/-- The frame of the kernel at float words: from any memory whose labels are below ten, it terminates with its arguments
    as they were and every counter at zero. -/
theorem kernel_run (m : (ℓ : Loc Cert.Kernel.nD Cert.Kernel.τ Cert.Kernel.sig) → Buf (Elt Bits) ℓ) (g : Dev Cert.Kernel.nD → PrngReg)
    (hL : ∀ (c : Dev Cert.Kernel.nD) (y : Cert.Kernel.S8.Idx),
      (m ((c.tc : Thread Cert.Kernel.nD Cert.Kernel.τ).loc Cert.Kernel.main_arg1) y : BitVec 32).toNat < 10) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [tables_eq]
  exact Cert.KernelIdeal.Hand.run_frame (F := Bits) m g hL

end Cert.Hand
-- ==== Proof.Cell.lean ====
module

public import Idealize.ShloMosaic.Lib.Pointwise

@[expose] public section

noncomputable section

namespace Cert.Cell

open Idealize.ShloMosaic

/-- The extended real `x` lies strictly inside the unit cell that starts at `n`. -/
def Inside (x : EReal) (n : ℕ) : Prop := ((n : ℝ) : EReal) < x ∧ x < (((n : ℝ) + 1 : ℝ) : EReal)

/-- The kernel's test of a coordinate: `x` truncated to a word is `n` and `x` exceeds it, exactly when `x` lies inside the
    cell at `n` — at every extended real, since a clamped word is no cell's number. -/
theorem inside_iff_word (x : EReal) (n : ℕ) (hn : n < 1000) :
    ((Ideal.fptosi 32 x).toInt = n ∧ (((Ideal.fptosi 32 x).toInt : ℝ) : EReal) < x) ↔ Inside x n := by
  have ofInt_toInt : ∀ k : ℤ, -2147483648 ≤ k → k ≤ 2147483647 → (BitVec.ofInt 32 k).toInt = k := by
    intro k h1 h2
    rw [BitVec.toInt_ofInt, Int.bmod_eq_of_le (by omega) (by omega)]
  unfold Ideal.fptosi Inside
  induction x using EReal.rec with
  | bot =>
    rw [Ideal.toIntClamped_bot, ofInt_toInt _ (by norm_num) (by norm_num)]
    refine ⟨fun h => ?_, fun h => absurd h.1 not_lt_bot⟩
    have := h.1
    norm_num at this; omega
  | top =>
    rw [Ideal.toIntClamped_top, ofInt_toInt _ (by norm_num) (by norm_num)]
    refine ⟨fun h => ?_, fun h => absurd h.2 not_top_lt⟩
    have := h.1
    norm_num at this; omega
  | coe r =>
    rw [Ideal.toIntClamped_coe, ofInt_toInt _ (le_max_of_le_left (by norm_num)) (max_le (by norm_num) (min_le_of_left_le (by norm_num)))]
    rw [EReal.coe_lt_coe_iff, EReal.coe_lt_coe_iff, EReal.coe_lt_coe_iff]
    constructor
    · rintro ⟨h1, h2⟩
      rw [h1] at h2
      have hr : (n : ℝ) < r := by exact_mod_cast h2
      have h0 : 0 ≤ r := (Nat.cast_nonneg n).trans hr.le
      rw [if_pos h0] at h1
      refine ⟨hr, ?_⟩
      have hf : ⌊r⌋ = n := by omega
      have := Int.lt_floor_add_one r
      rw [hf] at this; exact_mod_cast this
    · rintro ⟨h1, h2⟩
      have h0 : 0 ≤ r := (Nat.cast_nonneg n).trans h1.le
      have hf : ⌊r⌋ = (n : ℤ) := Int.floor_eq_iff.2 ⟨by exact_mod_cast h1.le, by exact_mod_cast h2⟩
      rw [if_pos h0, hf]
      have e : max (-((2 ^ (32 - 1) : ℕ) : ℤ)) (min (((2 ^ (32 - 1) : ℕ) : ℤ) - 1) (n : ℤ)) = n := by norm_num; omega
      rw [e]
      exact ⟨rfl, by exact_mod_cast h1⟩

/-- A product of two nonnegative extended reals is positive exactly when both are. -/
theorem pos_mul_iff {x y : EReal} (hx : 0 ≤ x) (hy : 0 ≤ y) : 0 < x * y ↔ 0 < x ∧ 0 < y := by
  refine ⟨fun h => ⟨lt_of_le_of_ne hx ?_, lt_of_le_of_ne hy ?_⟩, fun h => EReal.mul_pos h.1 h.2⟩
  · rintro rfl; simp at h
  · rintro rfl; simp at h

/-- Rectifying keeps what is positive. -/
theorem pos_max_iff (x : EReal) : 0 < max x 0 ↔ 0 < x := by simp

/-- A difference with a real subtracted is positive exactly when the real is the smaller. -/
theorem pos_sub_iff (x : EReal) (r : ℝ) : 0 < x - (r : EReal) ↔ (r : EReal) < x := by
  induction x using EReal.rec with
  | bot => simp
  | top => simp
  | coe s => rw [← EReal.coe_sub, ← EReal.coe_zero, EReal.coe_lt_coe_iff, EReal.coe_lt_coe_iff, sub_pos]

/-- A difference from a real is positive exactly when the real is the greater. -/
theorem sub_pos_iff (x : EReal) (r : ℝ) : 0 < (r : EReal) - x ↔ x < (r : EReal) := by
  induction x using EReal.rec with
  | bot => simp
  | top => simp
  | coe s => rw [← EReal.coe_sub, ← EReal.coe_zero, EReal.coe_lt_coe_iff, EReal.coe_lt_coe_iff, sub_pos]

/-- The reference's mask: the product of the four rectified differences is positive exactly when both coordinates lie
    inside their cells — at the infinities too. -/
theorem mask_pos_iff (a b : EReal) (i j : ℕ) :
    0 < max (max (a - ((i : ℝ) : EReal)) 0 * max (b - ((j : ℝ) : EReal)) 0) 0
        * max (max ((((i : ℝ) + 1 : ℝ) : EReal) - a) 0 * max ((((j : ℝ) + 1 : ℝ) : EReal) - b) 0) 0
      ↔ Inside a i ∧ Inside b j := by
  rw [pos_mul_iff (le_max_right _ _) (le_max_right _ _), pos_max_iff, pos_max_iff,
    pos_mul_iff (le_max_right _ _) (le_max_right _ _), pos_mul_iff (le_max_right _ _) (le_max_right _ _),
    pos_max_iff, pos_max_iff, pos_max_iff, pos_max_iff, pos_sub_iff, pos_sub_iff, sub_pos_iff, sub_pos_iff]
  unfold Inside; tauto

/-- The value both programs compute for row `r`, column `c` and class `k`: one when some object of class `k` has its
    centre `(a n, b n)`, scaled to the grid, inside the cell, and zero otherwise. -/
def hit (a b : Fin 8 → EReal) (lab : Fin 8 → BitVec 32) (r c k : ℕ) : EReal := by
  classical exact if ∃ n, Inside (a n * Ideal.ofBits .f32 0x447A0000#32) r
    ∧ Inside (b n * Ideal.ofBits .f32 0x447A0000#32) c ∧ (lab n).toNat = k then 1 else 0

/-- The greatest of finitely many zeros and ones, over minus infinity, is one exactly when one of them is. -/
theorem fold_max_ite (p : Fin 8 → Prop) [DecidablePred p] [Decidable (∃ n, p n)] :
    Finset.univ.fold max (⊥ : EReal) (fun n => if p n then (1 : EReal) else 0) = if ∃ n, p n then 1 else 0 := by
  apply le_antisymm
  · refine Finset.fold_max_le _ |>.2 ⟨bot_le, fun n _ => ?_⟩
    by_cases h : p n
    · rw [if_pos h, if_pos ⟨n, h⟩]
    · rw [if_neg h]; split <;> simp
  · refine Finset.le_fold_max _ |>.2 (Or.inr ?_)
    by_cases h : ∃ n, p n
    · obtain ⟨n, hn⟩ := h
      exact ⟨n, Finset.mem_univ _, by rw [if_pos ⟨n, hn⟩, if_pos hn]⟩
    · exact ⟨0, Finset.mem_univ _, by rw [if_neg h]; split <;> simp⟩

/-- The words the reference's grid is made of, read as reals. -/
theorem sitofp_ofNat (n : ℕ) (hn : n < 1000) :
    (FloatOps.sitofp (F := Ideal) FTy.f32 (BitVec.ofNat 32 n) : EReal) = ((n : ℝ) : EReal) := by
  have e : (BitVec.ofNat 32 n).toInt = (n : ℤ) := by
    rw [BitVec.toInt_eq_toNat_of_lt] <;> simp only [BitVec.toNat_ofNat] <;> omega
  show (((BitVec.ofNat 32 n).toInt : ℝ) : EReal) = _
  rw [e]; norm_cast

/-- A truth value read as a float is one or zero. -/
theorem uitofp_ofBool (b : Bool) :
    (FloatOps.uitofp (F := Ideal) FTy.f32 (BitVec.ofBool b) : EReal) = if b = true then 1 else 0 := by
  show (((BitVec.ofBool b).toNat : ℝ) : EReal) = _
  cases b <;> simp

/-- So is one widened to a word first. -/
theorem sitofp_setWidth_ofBool (b : Bool) :
    (FloatOps.sitofp (F := Ideal) FTy.f32 (BitVec.setWidth 32 (BitVec.ofBool b)) : EReal) = if b = true then 1 else 0 := by
  show (((BitVec.setWidth 32 (BitVec.ofBool b)).toInt : ℝ) : EReal) = _
  cases b <;> simp

end Cert.Cell
-- ==== Proof.Marks.lean ====
module

public import proofs.«01_k».proof.Proof.Body
public import proofs.«01_k».proof.Proof.Cell
public import Idealize.ShloMosaic.Lib.Pointwise

@[expose] public section

noncomputable section

namespace Cert.KernelIdeal.Hand

open Cert.KernelIdeal Cert.KernelIdeal.Gen Idealize.ShloMosaic Idealize.ShloMosaic.Pointwise Cert.Cell

/-- The row the body stores, at column `col`: the greater of what was there and the indicator of the object's column. -/
theorem pay15_apply (z1 : EReal) (W : Vec Ideal S1x1x1000 .f32) (col : Fin 1000) :
    k0_pay15 (F := Ideal) z1 W (ix3 0 0 col)
      = max (W (ix3 0 0 col)) (if (Ideal.fptosi 32 (z1 * Ideal.ofBits .f32 0x447A0000#32)).toInt = (col.val : ℤ) then 1 else 0) := by
  pointwise [k0_pay15, k0_pay12]
  refine congrArg (max _) ?_
  have e : (BitVec.ofNat 32 col.val).toInt = (col.val : ℤ) := by
    rw [BitVec.toInt_eq_toNat_of_lt] <;> simp only [BitVec.toNat_ofNat] <;> omega
  generalize Ideal.fptosi 32 (z1 * Ideal.ofBits FTy.f32 1148846080#32) = w
  simp only [← e, BitVec.toInt_inj]
  rw [show IntOp.cmpi CmpIPredicate.eq (BitVec.ofNat 32 col.val) w
    = BitVec.ofBool (decide (BitVec.ofNat 32 col.val = w)) from rfl, sitofp_setWidth_ofBool]
  simp only [decide_eq_true_eq, eq_comm (a := BitVec.ofNat 32 col.val)]

/-- The block after one guarded update, read at an index: the updated row at the row it selects, unchanged elsewhere. -/
theorem putIf_apply (C : Prop) [Decidable C] (off : Fin 3 → ℕ) (pay : Vec Ideal S1x1x1000 .f32 → FVec Ideal S1x1x1000 .f32)
    (X : Blk Ideal) (hin : C → off 0 < 10 ∧ off 1 < 200) (h2 : off 2 = 0) (k : Fin 10) (r : Fin 200) (col : Fin 1000) :
    putIf C off pay X (ix3 k r col)
      = if C ∧ off 0 = k.val ∧ off 1 = r.val then pay (fun w => X (ix3 k r (w 2))) (ix3 0 0 col) else X (ix3 k r col) := by
  unfold putIf
  by_cases hC : C
  · have hb : ∀ a, off a + S1x1x1000.size a ≤ S10x200x1000.size a := by
      have := hin hC
      intro a; fin_cases a <;> simp [S1x1x1000, S10x200x1000] <;> omega
    rw [dif_pos ⟨hC, hb⟩]
    unfold VecWindow.put
    by_cases hk : off 0 = k.val ∧ off 1 = r.val
    · rw [if_pos ⟨hC, hk⟩, dif_pos (by
        intro a; fin_cases a <;> simp [S1x1x1000, ix3] <;> omega)]
      have eW : VecWindow.window (s := S10x200x1000) X off S1x1x1000.size hb = fun w => X (ix3 k r (w 2)) := by
        funext w
        refine congrArg X (funext fun a => Fin.ext ?_)
        show off a + 1 * (w a).val = _
        have w0 : (w 0).val < 1 := (w 0).isLt
        have w1 : (w 1).val < 1 := (w 1).isLt
        fin_cases a <;> simp [ix3] <;> omega
      rw [eW]
      refine congrArg _ (funext fun a => Fin.ext ?_)
      fin_cases a <;> simp [ix3, Rect.unitLocal] <;> omega
    · rw [if_neg (fun h => hk h.2), dif_neg]
      intro h
      have h0 := h 0
      have h1 := h 1
      simp [S1x1x1000, ix3] at h0 h1
      omega
  · rw [dif_neg (fun h => hC h.1), if_neg (fun h => hC h.1)]

/-- One object's update at the exact reading, at an index holding zero or one: one there when the object's label is
    the plane's and its scaled centre lies inside the cell, and what was there otherwise. -/
theorem mark_apply (i : grid0.Coords) (z0 z1 : EReal) (l : BitVec 32) (hl : l.toNat < 10) (X : Blk Ideal)
    (k : Fin 10) (r : Fin 200) (col : Fin 1000) (P : Prop) [Decidable P] (hX : X (ix3 k r col) = if P then 1 else 0)
    (Q : Prop) [Decidable Q] (hQ : Q ↔ Inside (z0 * Ideal.ofBits .f32 0x447A0000#32) (200 * (i 0).val + r.val)
      ∧ Inside (z1 * Ideal.ofBits .f32 0x447A0000#32) col.val ∧ l.toNat = k.val) :
    mark i z0 z1 l X (ix3 k r col) = if Q ∨ P then 1 else 0 := by
  have hgt : ∀ x y : EReal, Scalar.cmpf (F := Ideal) (φ := .f32) .ogt x y = 1#1 ↔ y < x := fun x y => by
    show BitVec.ofBool (decide (y < x)) = 1#1 ↔ _
    by_cases h : y < x <;> simp [h]
  have h5 : (i 0).val < 5 := (i 0).isLt
  have hr := r.isLt
  have hc := col.isLt
  rw [← inside_iff_word _ _ (by omega), ← inside_iff_word _ _ hc] at hQ
  have hC : k0_cond1 i (Scalar.fptosi 32 (k0_pay11 (F := Ideal) z0)) (Scalar.cmpf .ogt (k0_pay11 (F := Ideal) z0) (k0_pay13 z0))
      (Scalar.cmpf .ogt (k0_pay12 (F := Ideal) z1) (k0_pay14 z1)) = 1#1 ↔ _ := (cond_iff i _ _ _).trans (by rw [hgt, hgt])
  have hrow := row_eq i (Scalar.fptosi 32 (k0_pay11 (F := Ideal) z0))
  have o0 : k0_off1 i (Scalar.fptosi 32 (k0_pay11 (F := Ideal) z0)) l 0 = l.toNat := rfl
  have o1 : k0_off1 i (Scalar.fptosi 32 (k0_pay11 (F := Ideal) z0)) l 1
    = (Scalar.subi (Scalar.fptosi 32 (k0_pay11 (F := Ideal) z0)) (Scalar.muli (BitVec.ofNat 32 (i 0).val) 200#32)).toNat := rfl
  have e13 : k0_pay13 (F := Ideal) z0 = (((Scalar.fptosi 32 (k0_pay11 (F := Ideal) z0)).toInt : ℝ) : EReal) := rfl
  have e14 : k0_pay14 (F := Ideal) z1 = (((Scalar.fptosi 32 (k0_pay12 (F := Ideal) z1)).toInt : ℝ) : EReal) := rfl
  change Q ↔ ((Scalar.fptosi 32 (k0_pay11 (F := Ideal) z0)).toInt = ((200 * (i 0).val + r.val : ℕ) : ℤ)
    ∧ (((Scalar.fptosi 32 (k0_pay11 (F := Ideal) z0)).toInt : ℝ) : EReal) < k0_pay11 (F := Ideal) z0)
    ∧ ((Scalar.fptosi 32 (k0_pay12 (F := Ideal) z1)).toInt = (col.val : ℤ)
    ∧ (((Scalar.fptosi 32 (k0_pay12 (F := Ideal) z1)).toInt : ℝ) : EReal) < k0_pay12 (F := Ideal) z1) ∧ l.toNat = k.val at hQ
  rw [e13, e14] at hC
  unfold mark
  rw [putIf_apply _ _ _ _ (fun h => ?_) rfl, pay15_apply, o0, o1, e13, e14]
  · change (if _ then max (X (ix3 k r col)) (if (Scalar.fptosi 32 (k0_pay12 (F := Ideal) z1)).toInt = (col.val : ℤ) then (1 : EReal) else 0)
      else _) = _
    rw [hX]
    generalize Scalar.fptosi 32 (k0_pay11 (F := Ideal) z0) = w0 at *
    generalize Scalar.fptosi 32 (k0_pay12 (F := Ideal) z1) = w1 at *
    generalize k0_pay11 (F := Ideal) z0 = a at *
    generalize k0_pay12 (F := Ideal) z1 = b at *
    by_cases hq : Q
    · obtain ⟨⟨q1, q2⟩, ⟨q3, q4⟩, q5⟩ := hQ.1 hq
      have hb : 200 * ((i 0).val : ℤ) ≤ w0.toInt ∧ w0.toInt < 200 * ((i 0).val : ℤ) + 200 := by omega
      have := hrow hb
      rw [if_pos ⟨hC.2 ⟨q2, q4, hb⟩, q5, by omega⟩, if_pos q3, if_pos (Or.inl hq)]
      split <;> simp
    · simp only [hq, false_or]
      split
      · rename_i hg
        obtain ⟨q2, q4, hb⟩ := hC.1 hg.1
        have := hrow hb
        rw [if_neg (fun q3 => hq (hQ.2 ⟨⟨by omega, q2⟩, ⟨q3, q4⟩, hg.2.1⟩))]
        split <;> simp
      · rfl
  · obtain ⟨-, -, hb⟩ := hC.1 h
    have := hrow hb
    rw [o0, o1]
    omega

/-- The word the body loads for coordinate `k` of object `n` is the array's entry there. -/
theorem zIx_eq (n k : ℕ) (hn : n < 8) (hk : k < 2) (h) : zIx n k h = ix2 ⟨n, hn⟩ ⟨k, hk⟩ := by
  funext a; refine Fin.ext ?_
  have h1 := ((Shape.Idx.first (numel1_S1x1.symm ▸ Nat.one_pos) : S1x1.Idx) a).isLt
  show (![n, k] : Fin 2 → ℕ) a + 1 * ((Shape.Idx.first (numel1_S1x1.symm ▸ Nat.one_pos) : S1x1.Idx) a).val = _
  fin_cases a <;> simp [ix2, S1x1] at h1 ⊢ <;> omega

/-- The label word the body loads for object `n` is the array's entry there. -/
theorem labIx_eq (n : ℕ) (hn : n < 8) (h) : labIx n h = ix1 ⟨n, hn⟩ := by
  funext a; refine Fin.ext ?_
  have h1 := ((Shape.Idx.first (numel1_S1.symm ▸ Nat.one_pos) : S1.Idx) a).isLt
  show (![n] : Fin 1 → ℕ) a + 1 * ((Shape.Idx.first (numel1_S1.symm ▸ Nat.one_pos) : S1.Idx) a).val = _
  fin_cases a; simp [ix1, S1] at h1 ⊢; omega

/-- The block at a grid point at the exact reading: `hit` at the point's rows. -/
theorem marks_apply (i : grid0.Coords) (z : S8x2.Idx → EReal) (lab : S8.Idx → BitVec 32) (hlab : ∀ y, (lab y).toNat < 10)
    (k : Fin 10) (r : Fin 200) (col : Fin 1000) :
    marks (F := Ideal) i z lab 8 le_rfl (ix3 k r col)
      = hit (fun n => z (ix2 n 0)) (fun n => z (ix2 n 1)) (fun n => lab (ix1 n)) (200 * (i 0).val + r.val) col.val k.val := by
  classical
  have step : ∀ (N : ℕ) (hN : N ≤ 8), marks (F := Ideal) i z lab N hN (ix3 k r col)
      = if ∃ n : Fin 8, n.val < N ∧ Inside (z (ix2 n 0) * Ideal.ofBits .f32 0x447A0000#32) (200 * (i 0).val + r.val)
          ∧ Inside (z (ix2 n 1) * Ideal.ofBits .f32 0x447A0000#32) col.val ∧ (lab (ix1 n)).toNat = k.val then 1 else 0 := by
    intro N
    induction N with
    | zero => intro hN; simp [marks, k0_pay10]; rfl
    | succ N ih =>
      intro hN
      rw [marks, zIx_eq N 0 hN (by omega), zIx_eq N 1 hN (by omega), labIx_eq N hN,
        mark_apply i _ _ _ (hlab _) _ k r col _ (ih (by omega)) _ Iff.rfl]
      refine if_congr ?_ rfl rfl
      constructor
      · rintro (h | ⟨n, h1, h2⟩)
        · exact ⟨⟨N, hN⟩, Nat.lt_succ_self N, h⟩
        · exact ⟨n, by omega, h2⟩
      · rintro ⟨n, h1, h2⟩
        rcases Nat.lt_succ_iff_lt_or_eq.1 h1 with h | h
        · exact Or.inr ⟨n, h, h2⟩
        · obtain rfl : n = ⟨N, hN⟩ := Fin.ext h
          exact Or.inl h2
  rw [step 8 le_rfl, hit]
  refine if_congr ?_ rfl rfl
  exact exists_congr fun n => ⟨fun h => h.2, fun h => ⟨n.isLt, h⟩⟩

end Cert.KernelIdeal.Hand
-- ==== Proof.Out.lean ====
module

public import proofs.«01_k».proof.Proof.Marks
public import Idealize.ShloMosaic.Lib.Pipeline.ValueKit.Geometry

@[expose] public section

noncomputable section

namespace Cert.KernelIdeal.Hand

open Cert.KernelIdeal Cert.KernelIdeal.Gen Idealize.ShloMosaic Idealize.ShloMosaic.TcCoe Idealize.SL.Sem Idealize.ShloMosaic.Pointwise Cert.Cell
open Idealize.ShloMosaic.Pipeline (Dat)

variable (m : (ℓ : Loc nD τ sig) → Buf (Elt Ideal) ℓ) (ρ : Dev nD → PrngReg)

/-- The kernel's output array, class by class: `hit` of the launch's objects and labels. -/
def planes (c : Dev nD) : S10x1000x1000.Idx → EReal := fun x =>
  hit (fun n => m ((c : Thread nD τ).loc main_arg0) (ix2 n 0)) (fun n => m ((c : Thread nD τ).loc main_arg0) (ix2 n 1))
    (fun n => m ((c : Thread nD τ).loc main_arg1) (ix1 n)) (x 1).val (x 2).val (x 0).val

/-- A point's block of the objects' centres is the whole array. -/
theorem iblk0_apply (c : Dev nD) (t : Fin cfg0.N) (n : Fin 8) (k : Fin 2) :
    iblk m c 0 t (ix2 n k) = m ((c : Thread nD τ).loc main_arg0) (ix2 n k) := by
  have e : ∀ t : Fin cfg0.N, win0_0.index t = ![0, 0] := (by decide +kernel : ∀ t : Fin grid0.N, _)
  blk_simp [iblk]
  refine congrArg (m ((c : Thread nD τ).loc main_arg0)) ?_
  blk_ext [e]

/-- A point's block of the labels is the whole array. -/
theorem iblk1_apply (c : Dev nD) (t : Fin cfg0.N) (n : Fin 8) :
    iblk m c 1 t (ix1 n) = m ((c : Thread nD τ).loc main_arg1) (ix1 n) := by
  have e : ∀ t : Fin cfg0.N, win0_1.index t = ![0] := (by decide +kernel : ∀ t : Fin grid0.N, _)
  blk_simp [iblk]
  refine congrArg (m ((c : Thread nD τ).loc main_arg1)) ?_
  blk_ext [e]

/-- The output array after the launch: the five points' blocks, side by side. -/
theorem final_planes (hL : Labelled m) (c : Dev nD) : (dats m 0 c).arrAt 2 cfg0.N = planes m c := by
  refine (dats m 0 c).arrAt_eq_of_covers 2 _ (by decide +kernel) fun t hf y => ?_
  have e : ∀ t : Fin cfg0.N, win0_2.index t = ![0, (cfg0.grid.coords t 0).val, 0] := (by decide +kernel : ∀ t : Fin grid0.N, _)
  blk_simp
  change outAfter m c t y = _
  obtain ⟨k, r, col, rfl⟩ : ∃ (k : Fin 10) (r : Fin 200) (col : Fin 1000), y = ix3 k r col := ⟨y 0, y 1, y 2, eq_ix3 y⟩
  refine (marks_apply _ (iblk m c 0 t) (iblk m c 1 t) (fun y => hL c _) k r col).trans ?_
  unfold planes
  rw [funext fun n => iblk0_apply m c t n 0, funext fun n => iblk0_apply m c t n 1, funext fun n => iblk1_apply m c t n]
  blk_simp [e]
  rw [Nat.mul_comm 200]

/-- The kernel's result at the exact reading, with the arguments as they were. -/
theorem run_value (hL : Labelled m) :
    θ_run defs (onTc (τ := τ) (main (F := Ideal))) ⟨m, fun _ => 0, ρ⟩ fun r => ∀ c : Dev nD,
      (∀ (i j : Fin 1000) (k : Fin 10), r.2.mem ((c.tc : Thread nD τ).loc main_v1) (ix3 i j k)
        = hit (fun n => m ((c.tc : Thread nD τ).loc main_arg0) (ix2 n 0)) (fun n => m ((c.tc : Thread nD τ).loc main_arg0) (ix2 n 1))
            (fun n => m ((c.tc : Thread nD τ).loc main_arg1) (ix1 n)) i j k)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun i j k => ?_, (h.1.in_eq c 0 rfl).trans (A_eq m c 0),
    (h.1.in_eq c 1 rfl).trans (A_eq m c 1)⟩) (run_main m ρ hL)
  rw [h.1.rest_eq c main_v1 (by decide), Pipeline.afterTail₀]
  simp only [List.flatten_cons, List.flatten_nil, List.append_nil, StableHlo.after_cons, StableHlo.after_nil]
  rw [StableHlo.unary_result]
  refine (congrFun (congrArg (transpose S1000x1000x10 [1, 2, 0] · transposes_S10x1000x1000_S1000x1000x10_1_2_0)
    ((Pipeline.withArrays_arr spec0 launch0.win.arr_inj c _ _ 2).trans (final_planes m hL c))) _).trans ?_
  pointwise [planes]

end Cert.KernelIdeal.Hand
-- ==== Proof.Ref.lean ====
module

public import proofs.«01_k».proof.Proof.Gen.ReferenceIdeal.Run
public import proofs.«01_k».proof.Proof.Cell
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.Pointwise Cert.Cell

/-- The reference's result at every row, column and class is `hit` of the launch's arguments, which end as they were. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (i j : Fin 1000) (k : Fin 10), r.2.mem ((c.tc : Thread nD τ).loc main_v55) (ix3 i j k)
        = hit (fun n => m ((c.tc : Thread nD τ).loc main_arg0) (ix2 n 0)) (fun n => m ((c.tc : Thread nD τ).loc main_arg0) (ix2 n 1))
            (fun n => m ((c.tc : Thread nD τ).loc main_arg1) (ix1 n)) i j k)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun i j k => ?_, (h c).2⟩) (Value.run m ρ)
  rw [(h c).1]
  generalize m ((c.tc : Thread nD τ).loc main_arg0) = z
  generalize m ((c.tc : Thread nD τ).loc main_arg1) = lab
  clear h
  pointwise
  have hbot : Ideal.ofBits FTy.f32 4286578688#32 = ⊥ := by simp [Ideal.ofBits, Ideal.ieee]
  have hi := sitofp_ofNat i.val i.isLt
  have hj := sitofp_ofNat j.val j.isLt
  have hi1 : (((i.val : ℝ) : EReal) + 1) = (((i.val : ℝ) + 1 : ℝ) : EReal) := by norm_cast
  have hj1 : (((j.val : ℝ) : EReal) + 1) = (((j.val : ℝ) + 1 : ℝ) : EReal) := by norm_cast
  have hk : ∀ w : BitVec 32, w = BitVec.ofNat 32 k.val ↔ w.toNat = k.val := fun w => by
    rw [← BitVec.toNat_inj, BitVec.toNat_ofNat, Nat.mod_eq_of_lt (by omega)]
  classical
  rw [hbot, hit, ← fold_max_ite]
  refine Finset.fold_congr fun n _ => ?_
  rw [show IntOp.cmpi CmpIPredicate.eq (lab (ix1 n)) (BitVec.ofNat 32 k.val)
    = BitVec.ofBool (decide (lab (ix1 n) = BitVec.ofNat 32 k.val)) from rfl, uitofp_ofBool, uitofp_ofBool]
  simp only [hi, hj, hi1, hj1, decide_eq_true_eq, mask_pos_iff, hk, ← and_assoc]
  split_ifs <;> simp_all

end Cert.ReferenceIdeal.Hand
-- ==== Proof.lean ====
/- Every claim of the certificate: the kernel's frame at words and at extended reals and the reference's frame, and the equality of
   the kernel's result with the reference's over the extended reals. The kernel's side is in Proof/Body (what the body
   leaves), Proof/Marks (its value at an index) and Proof/Out (the result array); the reference's in Proof/Ref; both meet at
   `Cert.Cell.hit` of Proof/Cell. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_labelled
public import proofs.«01_k».proof.Proof.Labels
public import proofs.«01_k».proof.Proof.Twin
public import proofs.«01_k».proof.Proof.Out
public import proofs.«01_k».proof.Proof.Ref
public import Idealize.ShloMosaic.Adequacy
public import Idealize.ShloMosaic.Init

@[expose] public section

noncomputable section

namespace Cert.Proof

open Idealize.ShloMosaic Idealize.SL.Sem

/-- The reference's frame: it terminates with its arguments as they were; it has no semaphore, so every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, Idealize.ShloMosaic.sem_eq_zero_of_no_sems (by decide) r.2⟩)
    (Cert.ReferenceIdeal.Hand.run_value m g)

/-- Kernel and reference compute the same array: at every row, column and class both are `hit` of the launch's arguments. -/
theorem values_agree : Cert.algebraic_KernelIdeal_ReferenceIdeal (hKernelIdeal := Cert.KernelIdeal.Gen.facts)
    (hReferenceIdeal := Cert.ReferenceIdeal.Gen.facts) (hPre_labelled := Cert.Pre_labelled.Gen.facts) := by
  intro m g m' g' hp hm
  refine ⟨fun c y => Cert.Cell.hit (fun n => m ((c.tc : Thread Cert.KernelIdeal.nD Cert.KernelIdeal.τ).loc Cert.KernelIdeal.main_arg0) (ix2 n 0))
      (fun n => m ((c.tc : Thread Cert.KernelIdeal.nD Cert.KernelIdeal.τ).loc Cert.KernelIdeal.main_arg0) (ix2 n 1))
      (fun n => m ((c.tc : Thread Cert.KernelIdeal.nD Cert.KernelIdeal.τ).loc Cert.KernelIdeal.main_arg1) (ix1 n)) (y 0).val (y 1).val (y 2).val,
    (θ_run _ _ _).mono (fun r h c => ⟨funext fun y => ?_, (h c).2⟩)
      (Cert.KernelIdeal.Hand.run_value m g fun c y => Cert.Pre_labelled.below_ten _ _ (hp c) y),
    (θ_run _ _ _).mono (fun r h c => ⟨funext fun y => ?_, (h c).2⟩) (Cert.ReferenceIdeal.Hand.run_value m' g')⟩
  · have e := (h c).1 (y 0) (y 1) (y 2)
    rwa [← eq_ix3 y] at e
  · have e := (h c).1 (y 0) (y 1) (y 2)
    rw [(hm c).1, (hm c).2] at e
    rwa [← eq_ix3 y] at e

/-- The certificate's claim. -/
theorem claim : Cert.Claim :=
  ⟨Cert.Kernel.Gen.facts, Cert.KernelIdeal.Gen.facts, Cert.ReferenceIdeal.Gen.facts, Cert.Pre_labelled.Gen.facts,
    fun m g hp => Cert.Hand.kernel_run m g fun c y => Cert.Pre_labelled.below_ten _ _ (hp c) y,
    fun m g hp => Cert.KernelIdeal.Hand.run_frame m g fun c y => Cert.Pre_labelled.below_ten _ _ (hp c) y,
    fun m g _ => reference_frame m g, fun m g _ => reference_frame m g, trivial, values_agree⟩

end Cert.Proof

end
